-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_states_in_range_and_no_zero_over_zero [hPre_states_in_range_and_no_zero_over_zero : Cert.Pre_states_in_range_and_no_zero_over_zero.Facts] (m : (ℓ : Loc Cert.KernelIdeal.nD Cert.KernelIdeal.τ Cert.KernelIdeal.sig) → Buf (Elt Ideal) ℓ) : Prop :=
  ∀ c : Dev Cert.KernelIdeal.nD,
    (Cert.Pre_states_in_range_and_no_zero_over_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_states_in_range_and_no_zero_over_zero [hPre_states_in_range_and_no_zero_over_zero : Cert.Pre_states_in_range_and_no_zero_over_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_states_in_range_and_no_zero_over_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_states_in_range_and_no_zero_over_zero [hKernelIdeal : Cert.KernelIdeal.Facts] [hPre_states_in_range_and_no_zero_over_zero : Cert.Pre_states_in_range_and_no_zero_over_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_states_in_range_and_no_zero_over_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_states_in_range_and_no_zero_over_zero [hReferenceIdeal : Cert.ReferenceIdeal.Facts] [hPre_states_in_range_and_no_zero_over_zero : Cert.Pre_states_in_range_and_no_zero_over_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_states_in_range_and_no_zero_over_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_states_in_range_and_no_zero_over_zero [hKernelIdeal : Cert.KernelIdeal.Facts] [hReferenceIdeal : Cert.ReferenceIdeal.Facts] [hPre_states_in_range_and_no_zero_over_zero : Cert.Pre_states_in_range_and_no_zero_over_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_states_in_range_and_no_zero_over_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_states_in_range_and_no_zero_over_zero : Cert.Pre_states_in_range_and_no_zero_over_zero.Facts),
    quiescent_Kernel (hKernel := hKernel)
    ∧ quiescent_KernelIdeal (hKernelIdeal := hKernelIdeal)
    ∧ quiescent_KernelIdeal_pre_states_in_range_and_no_zero_over_zero (hKernelIdeal := hKernelIdeal) (hPre_states_in_range_and_no_zero_over_zero := hPre_states_in_range_and_no_zero_over_zero)
    ∧ quiescent_ReferenceIdeal (hReferenceIdeal := hReferenceIdeal)
    ∧ quiescent_ReferenceIdeal_pre_states_in_range_and_no_zero_over_zero (hReferenceIdeal := hReferenceIdeal) (hPre_states_in_range_and_no_zero_over_zero := hPre_states_in_range_and_no_zero_over_zero)
    ∧ preserves_Kernel_KernelIdeal
    ∧ algebraic_KernelIdeal_ReferenceIdeal_pre_states_in_range_and_no_zero_over_zero (hKernelIdeal := hKernelIdeal) (hReferenceIdeal := hReferenceIdeal) (hPre_states_in_range_and_no_zero_over_zero := hPre_states_in_range_and_no_zero_over_zero)
-- ==== Pre_states_in_range_and_no_zero_over_zero.lean ====
abbrev S16x3072x256 : Shape := ⟨3, ![16, 3072, 256]⟩
abbrev S16x3072 : Shape := ⟨2, ![16, 3072]⟩
abbrev S16 : Shape := ⟨1, ![16]⟩
abbrev S16x256x256 : Shape := ⟨3, ![16, 256, 256]⟩
abbrev S16x1 : Shape := ⟨2, ![16, 1]⟩
abbrev S_ : Shape := ⟨0, ![]⟩
abbrev S16x3072x1 : Shape := ⟨3, ![16, 3072, 1]⟩
abbrev S16x3072x2 : Shape := ⟨3, ![16, 3072, 2]⟩

class Facts : Prop where
  bcast_S16_S16x1_0 : S16.BroadcastsInDim S16x1 (![0] : Fin 1 → Fin S16x1.rank)
  bcast_S_S16x1 : S_.BroadcastsInDim S16x1 (![] : Fin 0 → Fin S16x1.rank)
  bcast_S_S16x3072 : S_.BroadcastsInDim S16x3072 (![] : Fin 0 → Fin S16x3072.rank)
  bcast_S16x1_S16x3072_0_1 : S16x1.BroadcastsInDim S16x3072 (![0, 1] : Fin 2 → Fin S16x3072.rank)
  bcast_S16x3072_S16x3072x1_0_1 : S16x3072.BroadcastsInDim S16x3072x1 (![0, 1] : Fin 2 → Fin S16x3072x1.rank)
  concatenates_S16x3072x1_S16x3072x1_S16x3072x2_d2 : Shape.Concatenates [S16x3072x1, S16x3072x1] S16x3072x2 2
  bcast_S_S16x3072x256 : S_.BroadcastsInDim S16x3072x256 (![] : Fin 0 → Fin S16x3072x256.rank)
  reducesTo_S16x3072_S_d0_1 : S16x3072.ReducesTo [0, 1] S_
  h_S_ : 0 < S_.numel
  reducesTo_S16x3072x256_S_d0_1_2 : S16x3072x256.ReducesTo [0, 1, 2] S_
  gather_S16x256x256_S16x3072x2_S16x3072x256_2_02_n_n_02_2_12561_wf : GatherDims.WF S16x256x256 S16x3072x2 S16x3072x256 [2] [0, 2] [] [0, 2] [] 2 ![1, 256, 1]

variable [Facts]

def gather_S16x256x256_S16x3072x2_S16x3072x256_2_02_n_n_02_2_12561 : GatherDims S16x256x256 S16x3072x2 S16x3072x256 where
  offsetDims := [2]
  collapsedSliceDims := [0, 2]
  operandBatchingDims := []
  startIndicesBatchingDims := []
  startIndexMap := [0, 2]
  indexVectorDim := 2
  sliceSizes := ![1, 256, 1]
  wf := gather_S16x256x256_S16x3072x2_S16x3072x256_2_02_n_n_02_2_12561_wf
def fn_part1 {F : FTy → Type} [FloatOps F] (main_arg0 : FVec F S16x3072x256 .f32) (main_arg1 : IVec S16x3072 32) (main_v18 : FVec F S16x3072x256 .f32) : IVec S_ 1 :=
  let main_c_3 : IVec S_ 32 := constantI S_ 32 0#32
  let main_v19 : IVec S16x3072 32 := broadcastInDim S16x3072 ![] bcast_S_S16x3072 main_c_3
  let main_v20 : IVec S16x3072 1 := cmpi .sge main_arg1 main_v19
  let main_c_4 : IVec S_ 32 := constantI S_ 32 256#32
  let main_v21 : IVec S16x3072 32 := broadcastInDim S16x3072 ![] bcast_S_S16x3072 main_c_4
  let main_v22 : IVec S16x3072 1 := cmpi .slt main_arg1 main_v21
  let main_v23 : IVec S16x3072 1 := andi main_v20 main_v22
  let main_c_5 : IVec S_ 1 := constantI S_ 1 1#1
  let main_v24 : IVec S_ 1 := (fun x v => Host.reduce IntOp.andi x v reducesTo_S16x3072_S_d0_1 h_S_) main_v23 main_c_5
  let main_cst_6 : FVec F S_ .f32 := constant S_ .f32 0x00000000#32
  let main_v25 : FVec F S16x3072x256 .f32 := broadcastInDim S16x3072x256 ![] bcast_S_S16x3072x256 main_cst_6
  let main_v26 : IVec S16x3072x256 1 := cmpf .une main_arg0 main_v25
  let main_cst_7 : FVec F S_ .f32 := constant S_ .f32 0x00000000#32
  let main_v27 : FVec F S16x3072x256 .f32 := broadcastInDim S16x3072x256 ![] bcast_S_S16x3072x256 main_cst_7
  let main_v28 : IVec S16x3072x256 1 := cmpf .une main_v18 main_v27
  let main_v29 : IVec S16x3072x256 1 := ori main_v26 main_v28
  let main_c_8 : IVec S_ 1 := constantI S_ 1 1#1
  let main_v30 : IVec S_ 1 := (fun x v => Host.reduce IntOp.andi x v reducesTo_S16x3072x256_S_d0_1_2 h_S_) main_v29 main_c_8
  let main_v31 : IVec S_ 1 := andi main_v24 main_v30
  main_v31

def fn {F : FTy → Type} [FloatOps F] (main_arg0 : FVec F S16x3072x256 .f32) (main_arg1 : IVec S16x3072 32) (main_arg2 : FVec F S16 .f32) (main_arg3 : FVec F S16x256x256 .f32) (main_arg4 : FVec F S16x256x256 .f32) : IVec S_ 1 :=
  let main_v0 : IVec S16 32 := iotaInDim S16 32 0
  let main_v1 : IVec S16x1 32 := broadcastInDim S16x1 ![0] bcast_S16_S16x1_0 main_v0
  let main_c : IVec S_ 32 := constantI S_ 32 0#32
  let main_v2 : IVec S16x1 32 := broadcastInDim S16x1 ![] bcast_S_S16x1 main_c
  let main_v3 : IVec S16x1 1 := cmpi .slt main_v1 main_v2
  let main_c_0 : IVec S_ 32 := constantI S_ 32 16#32
  let main_v4 : IVec S16x1 32 := broadcastInDim S16x1 ![] bcast_S_S16x1 main_c_0
  let main_v5 : IVec S16x1 32 := addi main_v1 main_v4
  let main_v6 : IVec S16x1 32 := select main_v3 main_v5 main_v1
  let main_c_1 : IVec S_ 32 := constantI S_ 32 0#32
  let main_v7 : IVec S16x3072 32 := broadcastInDim S16x3072 ![] bcast_S_S16x3072 main_c_1
  let main_v8 : IVec S16x3072 1 := cmpi .slt main_arg1 main_v7
  let main_c_2 : IVec S_ 32 := constantI S_ 32 256#32
  let main_v9 : IVec S16x3072 32 := broadcastInDim S16x3072 ![] bcast_S_S16x3072 main_c_2
  let main_v10 : IVec S16x3072 32 := addi main_arg1 main_v9
  let main_v11 : IVec S16x3072 32 := select main_v8 main_v10 main_arg1
  let main_v12 : IVec S16x3072 32 := broadcastInDim S16x3072 ![0, 1] bcast_S16x1_S16x3072_0_1 main_v6
  let main_v13 : IVec S16x3072x1 32 := broadcastInDim S16x3072x1 ![0, 1] bcast_S16x3072_S16x3072x1_0_1 main_v12
  let main_v14 : IVec S16x3072x1 32 := broadcastInDim S16x3072x1 ![0, 1] bcast_S16x3072_S16x3072x1_0_1 main_v11
  let main_v15 : IVec S16x3072x2 32 := (fun a b => concatenate S16x3072x2 2 [⟨S16x3072x1, a⟩, ⟨S16x3072x1, b⟩] concatenates_S16x3072x1_S16x3072x1_S16x3072x2_d2) main_v13 main_v14
  let main_v16 : FVec F S16x3072x256 .f32 := (fun x i => Host.gather gather_S16x256x256_S16x3072x2_S16x3072x256_2_02_n_n_02_2_12561 x i) main_arg3 main_v15
  let main_cst : FVec F S_ .f32 := constant S_ .f32 0x358637BD#32
  let main_v17 : FVec F S16x3072x256 .f32 := broadcastInDim S16x3072x256 ![] bcast_S_S16x3072x256 main_cst
  let main_v18 : FVec F S16x3072x256 .f32 := addf main_v16 main_v17
  fn_part1 (F := F) main_arg0 main_arg1 main_v18
-- ==== Kernel.lean ====
abbrev S16x3072x256 : Shape := ⟨3, ![16, 3072, 256]⟩
abbrev S16x3072 : Shape := ⟨2, ![16, 3072]⟩
abbrev S16 : Shape := ⟨1, ![16]⟩
abbrev S16x256x256 : Shape := ⟨3, ![16, 256, 256]⟩
abbrev S16x1x3072 : Shape := ⟨3, ![16, 1, 3072]⟩
abbrev S2x1x3072 : Shape := ⟨3, ![2, 1, 3072]⟩
abbrev S2x3072x256 : Shape := ⟨3, ![2, 3072, 256]⟩
abbrev S2x256x256 : Shape := ⟨3, ![2, 256, 256]⟩
abbrev S3072x256 : Shape := ⟨2, ![3072, 256]⟩
abbrev S256x256 : Shape := ⟨2, ![256, 256]⟩
abbrev S1x1x3072 : Shape := ⟨3, ![1, 1, 3072]⟩
abbrev S3072 : Shape := ⟨1, ![3072]⟩
abbrev S3072x1 : Shape := ⟨2, ![3072, 1]⟩
abbrev S1x256x256 : Shape := ⟨3, ![1, 256, 256]⟩
abbrev S1x3072x256 : Shape := ⟨3, ![1, 3072, 256]⟩

abbrev nBuf : Space → Nat
  | .hbm => 7
  | .vmem => 10
  | .smem => 0
  | _ => 0

abbrev bufTy : (tb : Table) → Fin (tcTables nBuf tb) → BufTy
  | .hbm, ⟨0, _⟩ => ⟨S16x3072x256, .f32⟩
  | .hbm, ⟨1, _⟩ => ⟨S16x3072, .i32⟩
  | .hbm, ⟨2, _⟩ => ⟨S16, .f32⟩
  | .hbm, ⟨3, _⟩ => ⟨S16x256x256, .f32⟩
  | .hbm, ⟨4, _⟩ => ⟨S16x256x256, .f32⟩
  | .hbm, ⟨5, _⟩ => ⟨S16x1x3072, .i32⟩
  | .hbm, ⟨6, _⟩ => ⟨S16x3072x256, .f32⟩
  | .local _ .vmem, ⟨0, _⟩ => ⟨S2x1x3072, .i32⟩
  | .local _ .vmem, ⟨1, _⟩ => ⟨S2x1x3072, .i32⟩
  | .local _ .vmem, ⟨2, _⟩ => ⟨S2x3072x256, .f32⟩
  | .local _ .vmem, ⟨3, _⟩ => ⟨S2x3072x256, .f32⟩
  | .local _ .vmem, ⟨4, _⟩ => ⟨S2x256x256, .f32⟩
  | .local _ .vmem, ⟨5, _⟩ => ⟨S2x256x256, .f32⟩
  | .local _ .vmem, ⟨6, _⟩ => ⟨S2x256x256, .f32⟩
  | .local _ .vmem, ⟨7, _⟩ => ⟨S2x256x256, .f32⟩
  | .local _ .vmem, ⟨8, _⟩ => ⟨S2x3072x256, .f32⟩
  | .local _ .vmem, ⟨9, _⟩ => ⟨S2x3072x256, .f32⟩
  | _, _ => ⟨S16x3072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x3072 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3072x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x3072x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x3072x256 : Shape := ⟨3, ![16, 3072, 256]⟩
abbrev S16x3072 : Shape := ⟨2, ![16, 3072]⟩
abbrev S16 : Shape := ⟨1, ![16]⟩
abbrev S16x256x256 : Shape := ⟨3, ![16, 256, 256]⟩
abbrev S16x1 : Shape := ⟨2, ![16, 1]⟩
abbrev S_ : Shape := ⟨0, ![]⟩
abbrev S16x3072x1 : Shape := ⟨3, ![16, 3072, 1]⟩
abbrev S16x3072x2 : Shape := ⟨3, ![16, 3072, 2]⟩
abbrev S3072 : Shape := ⟨1, ![3072]⟩
abbrev S1x3072 : Shape := ⟨2, ![1, 3072]⟩
abbrev S16x3072x3 : Shape := ⟨3, ![16, 3072, 3]⟩

abbrev nBuf : Space → Nat
  | .hbm => 83
  | .vmem => 0
  | .smem => 0
  | _ => 0

abbrev bufTy : (tb : Table) → Fin (tcTables nBuf tb) → BufTy
  | .hbm, ⟨0, _⟩ => ⟨S16x3072x256, .f32⟩
  | .hbm, ⟨1, _⟩ => ⟨S16x3072, .i32⟩
  | .hbm, ⟨2, _⟩ => ⟨S16, .f32⟩
  | .hbm, ⟨3, _⟩ => ⟨S16x256x256, .f32⟩
  | .hbm, ⟨4, _⟩ => ⟨S16x256x256, .f32⟩
  | .hbm, ⟨5, _⟩ => ⟨S16, .i32⟩
  | .hbm, ⟨6, _⟩ => ⟨S16x1, .i32⟩
  | .hbm, ⟨7, _⟩ => ⟨S_, .i32⟩
  | .hbm, ⟨8, _⟩ => ⟨S16x1, .i32⟩
  | .hbm, ⟨9, _⟩ => ⟨S16x1, .i1⟩
  | .hbm, ⟨10, _⟩ => ⟨S_, .i32⟩
  | .hbm, ⟨11, _⟩ => ⟨S16x1, .i32⟩
  | .hbm, ⟨12, _⟩ => ⟨S16x1, .i32⟩
  | .hbm, ⟨13, _⟩ => ⟨S16x1, .i32⟩
  | .hbm, ⟨14, _⟩ => ⟨S_, .i32⟩
  | .hbm, ⟨15, _⟩ => ⟨S16x3072, .i32⟩
  | .hbm, ⟨16, _⟩ => ⟨S16x3072, .i1⟩
  | .hbm, ⟨17, _⟩ => ⟨S_, .i32⟩
  | .hbm, ⟨18, _⟩ => ⟨S16x3072, .i32⟩
  | .hbm, ⟨19, _⟩ => ⟨S16x3072, .i32⟩
  | .hbm, ⟨20, _⟩ => ⟨S16x3072, .i32⟩
  | .hbm, ⟨21, _⟩ => ⟨S16x3072, .i32⟩
  | .hbm, ⟨22, _⟩ => ⟨S16x3072x1, .i32⟩
  | .hbm, ⟨23, _⟩ => ⟨S16x3072x1, .i32⟩
  | .hbm, ⟨24, _⟩ => ⟨S16x3072x2, .i32⟩
  | .hbm, ⟨25, _⟩ => ⟨S16x3072x256, .f32⟩
  | .hbm, ⟨26, _⟩ => ⟨S_, .f32⟩
  | .hbm, ⟨27, _⟩ => ⟨S16x3072x256, .f32⟩
  | .hbm, ⟨28, _⟩ => ⟨S16x3072x256, .f32⟩
  | .hbm, ⟨29, _⟩ => ⟨S_, .i32⟩
  | .hbm, ⟨30, _⟩ => ⟨S16x1, .i32⟩
  | .hbm, ⟨31, _⟩ => ⟨S16x1, .i1⟩
  | .hbm, ⟨32, _⟩ => ⟨S_, .i32⟩
  | .hbm, ⟨33, _⟩ => ⟨S16x1, .i32⟩
  | .hbm, ⟨34, _⟩ => ⟨S16x1, .i32⟩
  | .hbm, ⟨35, _⟩ => ⟨S16x1, .i32⟩
  | .hbm, ⟨36, _⟩ => ⟨S_, .i32⟩
  | .hbm, ⟨37, _⟩ => ⟨S16x3072, .i32⟩
  | .hbm, ⟨38, _⟩ => ⟨S16x3072, .i1⟩
  | .hbm, ⟨39, _⟩ => ⟨S_, .i32⟩
  | .hbm, ⟨40, _⟩ => ⟨S16x3072, .i32⟩
  | .hbm, ⟨41, _⟩ => ⟨S16x3072, .i32⟩
  | .hbm, ⟨42, _⟩ => ⟨S16x3072, .i32⟩
  | .hbm, ⟨43, _⟩ => ⟨S16x3072, .i32⟩
  | .hbm, ⟨44, _⟩ => ⟨S16x3072x1, .i32⟩
  | .hbm, ⟨45, _⟩ => ⟨S16x3072x1, .i32⟩
  | .hbm, ⟨46, _⟩ => ⟨S16x3072x2, .i32⟩
  | .hbm, ⟨47, _⟩ => ⟨S16x3072x256, .f32⟩
  | .hbm, ⟨48, _⟩ => ⟨S16x3072x256, .f32⟩
  | .hbm, ⟨49, _⟩ => ⟨S16x3072x256, .f32⟩
  | .hbm, ⟨50, _⟩ => ⟨S16x3072x256, .f32⟩
  | .hbm, ⟨51, _⟩ => ⟨S3072, .i32⟩
  | .hbm, ⟨52, _⟩ => ⟨S1x3072, .i32⟩
  | .hbm, ⟨53, _⟩ => ⟨S_, .i32⟩
  | .hbm, ⟨54, _⟩ => ⟨S16x1, .i32⟩
  | .hbm, ⟨55, _⟩ => ⟨S16x1, .i1⟩
  | .hbm, ⟨56, _⟩ => ⟨S_, .i32⟩
  | .hbm, ⟨57, _⟩ => ⟨S16x1, .i32⟩
  | .hbm, ⟨58, _⟩ => ⟨S16x1, .i32⟩
  | .hbm, ⟨59, _⟩ => ⟨S16x1, .i32⟩
  | .hbm, ⟨60, _⟩ => ⟨S_, .i32⟩
  | .hbm, ⟨61, _⟩ => ⟨S1x3072, .i32⟩
  | .hbm, ⟨62, _⟩ => ⟨S1x3072, .i1⟩
  | .hbm, ⟨63, _⟩ => ⟨S_, .i32⟩
  | .hbm, ⟨64, _⟩ => ⟨S1x3072, .i32⟩
  | .hbm, ⟨65, _⟩ => ⟨S1x3072, .i32⟩
  | .hbm, ⟨66, _⟩ => ⟨S1x3072, .i32⟩
  | .hbm, ⟨67, _⟩ => ⟨S_, .i32⟩
  | .hbm, ⟨68, _⟩ => ⟨S16x3072, .i32⟩
  | .hbm, ⟨69, _⟩ => ⟨S16x3072, .i1⟩
  | .hbm, ⟨70, _⟩ => ⟨S_, .i32⟩
  | .hbm, ⟨71, _⟩ => ⟨S16x3072, .i32⟩
  | .hbm, ⟨72, _⟩ => ⟨S16x3072, .i32⟩
  | .hbm, ⟨73, _⟩ => ⟨S16x3072, .i32⟩
  | .hbm, ⟨74, _⟩ => ⟨S16x3072, .i32⟩
  | .hbm, ⟨75, _⟩ => ⟨S16x3072, .i32⟩
  | .hbm, ⟨76, _⟩ => ⟨S16x3072x1, .i32⟩
  | .hbm, ⟨77, _⟩ => ⟨S16x3072x1, .i32⟩
  | .hbm, ⟨78, _⟩ => ⟨S16x3072x1, .i32⟩
  | .hbm, ⟨79, _⟩ => ⟨S16x3072x3, .i32⟩
  | .hbm, ⟨80, _⟩ => ⟨S_, .f32⟩
  | .hbm, ⟨81, _⟩ => ⟨S16x3072, .f32⟩
  | .hbm, ⟨82, _⟩ => ⟨S16x3072x256, .f32⟩
  | _, _ => ⟨S16x3072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_11 : Ref sig .tc := ⟨.hbm, 67, rfl⟩
abbrev main_v49 : Ref sig .tc := ⟨.hbm, 68, rfl⟩
abbrev main_v50 : Ref sig .tc := ⟨.hbm, 69, rfl⟩
abbrev main_c_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Proof.Rates.lean ====
/-
  The mathematics both programs compute, for one batch element and one position: the row of reverse rates out of the
  current state `s`. `o` is the network's output row, `q` the transition matrix, `r` the rate matrix. And the two facts
  about extended reals by which a one-hot row picks an entry and a reciprocal stands for a division.
-/
module

public import Idealize.ShloMosaic.Lib.Pointwise
public import Idealize.ShloMosaic.Lib.IdealHost
public import Idealize.ShloMosaic.Lib.WordCmp

@[expose] public section

noncomputable section

open scoped BigOperators

namespace Cert.Proof.Rates

open Idealize.ShloMosaic

/-- The number added to every transition probability before it is divided by: the f32 nearest to 1e-06. -/
def eps : EReal := Ideal.ofBits FTy.f32 0x358637BD#32

/-- The reverse rate from state `s` to state `v`: zero to itself, and otherwise the forward rate from `v` to `s` times
    the expected ratio `Σ_k o k / (q k s + eps) · q k v`. -/
def rev (o : Fin 256 → EReal) (q r : Fin 256 → Fin 256 → EReal) (s v : Fin 256) : EReal :=
  if v = s then 0 else r v s * ∑ k, Ideal.div (o k) (q k s + eps) * q k v

/-- The number that stands for "state word `w` is state `k`": the comparison's bit, widened and made a float. -/
def hot (w : BitVec 32) (k : Fin 256) : EReal :=
  FloatOps.sitofp (F := Ideal) FTy.f32 (BitVec.setWidth 32 (IntOp.cmpi .eq w (BitVec.ofNat 32 k.val)))

/-- It is one at the state the word names and zero at every other. -/
theorem hot_eq (w : BitVec 32) (s k : Fin 256) (h : w.toNat = s.val) : hot w k = if k = s then 1 else 0 := by
  have hk : (BitVec.ofNat 32 k.val).toNat = k.val := WordCmp.toNat_ofNat_of_lt (by omega)
  unfold hot
  rw [WordCmp.cmpi_eq_eq_toNat, hk, h]
  show (((BitVec.setWidth 32 (BitVec.ofBool (decide (s.val = k.val)))).toInt : ℝ) : EReal) = _
  by_cases e : k = s
  · subst e; simp
  · have e' : ¬ s.val = k.val := fun q => e (Fin.ext q.symm)
    simp [e, e']

/-- A one-hot row times a column is the column's entry at the state the word names, infinite entries included:
    zero times anything is zero. -/
theorem sum_hot (w : BitVec 32) (s : Fin 256) (h : w.toNat = s.val) (f : Fin 256 → EReal) : ∑ k, hot w k * f k = f s := by
  rw [Finset.sum_eq_single s (fun k _ hk => by rw [hot_eq w s k h, if_neg hk, zero_mul]) (fun n => (n (Finset.mem_univ s)).elim),
    hot_eq w s s h, if_pos rfl, one_mul]

/-- A number times a reciprocal is the quotient, a zero denominator included: there both are infinite with the number's
    sign. Only zero over zero is not zero times the reciprocal of zero. -/
theorem mul_one_div {x y : EReal} (h : x ≠ 0 ∨ y ≠ 0) : x * Ideal.div 1 y = Ideal.div x y := by
  by_cases hy : y = 0
  · have hx : x ≠ 0 := h.resolve_right (not_not_intro hy)
    unfold Ideal.div
    rw [if_pos hy, if_pos hy, if_pos zero_lt_one]
    rcases lt_or_gt_of_ne hx with n | p
    · rw [if_neg n.le.not_gt, EReal.mul_top_of_neg n]
    · rw [if_pos p, EReal.mul_top_of_pos p]
  · exact Ideal.mul_one_div hy

/-- The state a word names. -/
def state (w : BitVec 32) : Fin 256 := ⟨w.toNat % 256, Nat.mod_lt _ (by decide)⟩

/-- A word below 256 is the number of the state it names. -/
theorem toNat_eq_state {w : BitVec 32} (h : w.toNat < 256) : w.toNat = (state w).val := (Nat.mod_eq_of_lt h).symm

/-- The whole array of reverse rates: at batch element `b`, position `l` and state `v`, the rate from the state that
    `x` names at `(b, l)` to `v`, from row `(b, l)` of the outputs and batch element `b`'s two matrices. -/
def revArray (o : (⟨3, ![16, 3072, 256]⟩ : Shape).Idx → EReal) (x : (⟨2, ![16, 3072]⟩ : Shape).Idx → BitVec 32)
    (q r : (⟨3, ![16, 256, 256]⟩ : Shape).Idx → EReal) : (⟨3, ![16, 3072, 256]⟩ : Shape).Idx → EReal :=
  fun i => rev (fun k => o (ix3 (i 0) (i 1) k)) (fun k v => q (ix3 (i 0) k v)) (fun v s => r (ix3 (i 0) v s))
    (state (x (ix2 (i 0) (i 1)))) (i 2)

end Cert.Proof.Rates

end
-- ==== Proof.Block.lean ====
/-
  What the kernel computes for one batch element of its block, at one position and one state.
-/
module

public import proofs.«01_k».proof.Proof.Gen.KernelIdeal.Skeleton
public import proofs.«01_k».proof.Proof.Rates

@[expose] public section

set_option maxRecDepth 16384

noncomputable section

open scoped BigOperators

namespace Cert.Proof.Block

open Idealize.ShloMosaic Cert.KernelIdeal Cert.KernelIdeal.Gen Cert.Proof.Rates

/-- Where the position's word names state `s` and no quotient by column `s` is zero over zero, the first batch element's
    result at state `v` is the reverse rate from `s` to `v`: the two one-hot products pick column `s` of the reciprocals
    and of the rates whose diagonal was set to zero, and an output times a reciprocal is the quotient. -/
theorem pay3_apply (x : Vec Ideal S1x1x3072 .i32) (q r : Vec Ideal S1x256x256 .f32) (o : Vec Ideal S1x3072x256 .f32)
    (l : Fin 3072) (s v : Fin 256) (hx : (x (ix3 0 0 l)).toNat = s.val)
    (hq : ∀ k : Fin 256, o (ix3 0 l k) ≠ 0 ∨ q (ix3 0 k s) + eps ≠ 0) :
    k0_pay3 x q r o q (ix2 l v)
      = rev (fun k => o (ix3 0 l k)) (fun k v => q (ix3 0 k v)) (fun v s => r (ix3 0 v s)) s v := by
  have hfwd : (∑ k : Fin 256, Scalar.select (IntOp.cmpi CmpIPredicate.eq (BitVec.ofNat 32 v.val) (BitVec.ofNat 32 k.val)) 0
      (hot (x (ix3 0 0 l)) k * r (ix3 0 v k))) = if v = s then 0 else r (ix3 0 v s) := by
    rw [← sum_hot _ s hx fun k => if v = k then 0 else r (ix3 0 v k)]
    refine Finset.sum_congr rfl fun k _ => ?_
    rw [WordCmp.cmpi_eq_ofNat (by omega) (by omega), WordCmp.select_decide]
    by_cases e : v = k
    · rw [if_pos e, if_pos (congrArg Fin.val e), mul_zero]
    · rw [if_neg e, if_neg fun n => e (Fin.ext n)]
  have hrec (k : Fin 256) : o (ix3 0 l k) * (∑ j : Fin 256, hot (x (ix3 0 0 l)) j * Ideal.div 1 (q (ix3 0 k j) + eps))
      = Ideal.div (o (ix3 0 l k)) (q (ix3 0 k s) + eps) := by
    rw [sum_hot _ s hx fun j => Ideal.div 1 (q (ix3 0 k j) + eps)]
    exact mul_one_div (hq k)
  unfold k0_pay3 k0_pay2
  pointwise
  refine (congrArg₂ (· * ·) hfwd (Finset.sum_congr rfl fun k _ => congrArg (· * q (ix3 0 k v)) (hrec k))).trans ?_
  unfold rev
  by_cases e : v = s
  · rw [if_pos e, if_pos e, zero_mul]
  · rw [if_neg e, if_neg e]

/-- The second batch element's computation is the first's, over its own reads. -/
theorem pay5_eq (x : Vec Ideal S1x1x3072 .i32) (q r : Vec Ideal S1x256x256 .f32) (o : Vec Ideal S1x3072x256 .f32) :
    k0_pay5 (iota .tc S3072x256 32 [1] iota_S3072x256_d1_w32) k0_pay2 x q r o q = k0_pay3 x q r o q := rfl

end Cert.Proof.Block

end
-- ==== Proof.Pair.lean ====
/-
  What one grid point writes: its block's two batch elements, one after the other.
-/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Proof.Pair

open Idealize.ShloMosaic Cert.KernelIdeal Cert.KernelIdeal.Gen Cert.Proof.Rates

/-- A load of batch element `j` out of a block of two, read at an index: the block at `j`. -/
theorem ld_member {e : EltTy} {A B : Nat} (X : (⟨3, ![2, A, B]⟩ : Shape).Idx → Elt Ideal e) (j : Fin 2) (n : Nat) (hn : j.val = n)
    (inb : ∀ a, (![n, 0, 0] : Fin 3 → Nat) a + (![1, A, B] : Fin 3 → Nat) a ≤ (![2, A, B] : Fin 3 → Nat) a)
    (a : Fin A) (b : Fin B) :
    View.ld X (Rect.unit (s := ⟨3, ![2, A, B]⟩) ![n, 0, 0] ![1, A, B] inb) (ix3 0 a b) = X (ix3 j a b) :=
  View.ld_unit_apply_of X _ _ inb _ _ fun d => by
    subst hn
    match d with
    | ⟨0, _⟩ => rfl
    | ⟨1, _⟩ => exact (Nat.zero_add _).symm
    | ⟨2, _⟩ => exact (Nat.zero_add _).symm

/-- At batch element `j` of the block, position `l` and state `v`, the written buffer holds the reverse rate of
    that batch element, where the position's word names state `s` and no quotient by column `s` is zero over zero. -/
theorem out_apply (x : Vec Ideal S2x1x3072 .i32) (o : Vec Ideal S2x3072x256 .f32) (q r : Vec Ideal S2x256x256 .f32)
    (j : Fin 2) (l : Fin 3072) (s v : Fin 256) (hx : (x (ix3 j 0 l)).toNat = s.val)
    (hq : ∀ k : Fin 256, o (ix3 j l k) ≠ 0 ∨ q (ix3 j k s) + eps ≠ 0) :
    out0_4 x o q r (ix3 j l v)
      = rev (fun k => o (ix3 j l k)) (fun k v => q (ix3 j k v)) (fun v s => r (ix3 j v s)) s v := by
  have member (x' : Vec Ideal S1x1x3072 .i32) (q' r' : Vec Ideal S1x256x256 .f32) (o' : Vec Ideal S1x3072x256 .f32)
      (ex : ∀ l, x' (ix3 0 0 l) = x (ix3 j 0 l)) (eq : ∀ k v, q' (ix3 0 k v) = q (ix3 j k v))
      (er : ∀ k v, r' (ix3 0 k v) = r (ix3 j k v)) (eo : ∀ l k, o' (ix3 0 l k) = o (ix3 j l k))
      (y : S1x3072x256.Idx) (h1 : l.val = (y 1).val) (h2 : v.val = (y 2).val) :
      k0_pay1 (k0_pay3 x' q' r' o' q') y
        = rev (fun k => o (ix3 j l k)) (fun k v => q (ix3 j k v)) (fun v s => r (ix3 j v s)) s v := by
    have e := Block.pay3_apply x' q' r' o' l s v (by rw [ex]; exact hx) fun k => by rw [eo, eq]; exact hq k
    simp only [eq, er, eo] at e
    rw [← e]
    obtain rfl : y = ix3 0 l v := funext fun a => Fin.ext (by
      match a with
      | ⟨0, _⟩ => exact Nat.lt_one_iff.1 (y 0).isLt
      | ⟨1, _⟩ => exact h1.symm
      | ⟨2, _⟩ => exact h2.symm)
    unfold k0_pay1
    pointwise
  unfold out0_4
  rw [Block.pay5_eq]
  canon_tiles y h
  · have hj : j.val = 1 := by have : j.val = 1 + (y 0).val := h0; omega
    exact member _ _ _ _ (ld_member x j 1 hj _ 0) (ld_member q j 1 hj _) (ld_member r j 1 hj _) (ld_member o j 1 hj _) y h1 h2
  · have hj : j.val = 0 := by have : j.val = (y 0).val := h0; omega
    exact member _ _ _ _ (ld_member x j 0 hj _ 0) (ld_member q j 0 hj _) (ld_member r j 0 hj _) (ld_member o j 0 hj _) y h1 h2

end Cert.Proof.Pair

end
-- ==== Proof.Array.lean ====
/-
  What the result array holds after the kernel has run: the array of reverse rates of the arguments.
-/
module

public import proofs.«01_k».proof.Proof.Gen.KernelIdeal.Value
public import proofs.«01_k».proof.Proof.Pair

@[expose] public section

set_option maxRecDepth 16384

noncomputable section

namespace Cert.Proof.Array

open Idealize.ShloMosaic Idealize.ShloMosaic.TcCoe Cert.KernelIdeal Cert.KernelIdeal.Gen Cert.Proof.Rates
open Idealize.ShloMosaic.Pipeline (Dat)

variable (m : (ℓ : Loc nD τ sig) → Buf (Elt Ideal) ℓ) (c : Dev nD)

/-- Device `c`'s four argument arrays that matter, as arrays of numbers and words: outputs, states, matrices, rates. -/
abbrev outputs : S16x3072x256.Idx → EReal := m ((c : Thread nD τ).loc main_arg0)
@[inherit_doc outputs] abbrev states : S16x3072.Idx → BitVec 32 := m ((c : Thread nD τ).loc main_arg1)
@[inherit_doc outputs] abbrev matrices : S16x256x256.Idx → EReal := m ((c : Thread nD τ).loc main_arg3)
@[inherit_doc outputs] abbrev rates : S16x256x256.Idx → EReal := m ((c : Thread nD τ).loc main_arg4)

/-- The reverse rates of device `c`'s argument arrays. -/
abbrev result : Buf (Elt Ideal) ((c : Thread nD τ).loc main_v1) :=
  revArray (outputs m c) (states m c) (matrices m c) (rates m c)

/-- Point `t`'s blocks are the `t`-th pairs of batch elements. -/
theorem index_eq : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, win0_0.index t = ![t.val, 0, 0] ∧ win0_1.index t = ![t.val, 0, 0]
    ∧ win0_2.index t = ![t.val, 0, 0] ∧ win0_3.index t = ![t.val, 0, 0] ∧ win0_4.index t = ![t.val, 0, 0])

/-- Batch element `j` of point `t`'s block. -/
def member (t : Fin cfg0.N) (j : Fin 2) : Fin 16 := ⟨t.val * 2 + j.val, by have : t.val < 8 := t.isLt; omega⟩

/-- The states enter the launch as one row per batch element. -/
theorem states_row (b : Fin 16) (l : Fin 3072) : V m c main_v0 (ix3 b 0 l) = states m c (ix2 b l) := by
  entry_read
  pointwise

/-- Batch element `j` of point `t`'s block of states is the array's. -/
theorem states_at (t : Fin cfg0.N) (j : Fin 2) (l : Fin 3072) :
    iblk m c 0 t (ix3 j 0 l) = states m c (ix2 (member t j) l) := by
  refine Eq.trans ?_ (states_row m c (member t j) l)
  blk_ext [iblk, index_eq t, member]

/-- Batch element `j` of point `t`'s block of outputs is the array's. -/
theorem outputs_at (t : Fin cfg0.N) (j : Fin 2) (l : Fin 3072) (k : Fin 256) :
    iblk m c 1 t (ix3 j l k) = outputs m c (ix3 (member t j) l k) := by
  blk_ext [iblk, V, index_eq t, member]

/-- Batch element `j` of point `t`'s block of transition matrices is the array's. -/
theorem matrices_at (t : Fin cfg0.N) (j : Fin 2) (k v : Fin 256) :
    iblk m c 2 t (ix3 j k v) = matrices m c (ix3 (member t j) k v) := by
  blk_ext [iblk, V, index_eq t, member]

/-- Batch element `j` of point `t`'s block of rate matrices is the array's. -/
theorem rates_at (t : Fin cfg0.N) (j : Fin 2) (k v : Fin 256) :
    iblk m c 3 t (ix3 j k v) = rates m c (ix3 (member t j) k v) := by
  blk_ext [iblk, V, index_eq t, member]

/-- What point `t` leaves for batch element `j` of its block are that batch element's reverse rates. -/
theorem block_at (hx : ∀ i, (states m c i).toNat < 256)
    (hq : ∀ b l k, outputs m c (ix3 b l k) ≠ 0 ∨ matrices m c (ix3 b k (state (states m c (ix2 b l)))) + eps ≠ 0)
    (t : Fin cfg0.N) (j : Fin 2) (l : Fin 3072) (v : Fin 256) :
    out0_4 (iblk m c 0 t) (iblk m c 1 t) (iblk m c 2 t) (iblk m c 3 t) (ix3 j l v) = result m c (ix3 (member t j) l v) := by
  refine (Pair.out_apply _ _ _ _ j l (state (states m c (ix2 (member t j) l))) v
    (by rw [states_at]; exact toNat_eq_state (hx _)) fun k => by rw [outputs_at, matrices_at]; exact hq _ _ _).trans ?_
  simp only [outputs_at, matrices_at, rates_at]
  rfl

/-- The blocks tile the array, so with every state in range and no quotient zero over zero it ends at the reverse rates. -/
theorem final (hx : ∀ i, (states m c i).toNat < 256)
    (hq : ∀ b l k, outputs m c (ix3 b l k) ≠ 0 ∨ matrices m c (ix3 b k (state (states m c (ix2 b l)))) + eps ≠ 0) :
    (dats m 0 c).arrAt 4 cfg0.N = result m c := by
  refine (dats m 0 c).arrAt_eq_of_covers 4 _ (by decide +kernel) fun t hf y => ?_
  blk_simp
  rw [after0_4]
  obtain ⟨j, l, v, rfl⟩ : ∃ (j : Fin 2) (l : Fin 3072) (v : Fin 256), y = ix3 j l v := ⟨y 0, y 1, y 2, eq_ix3 y⟩
  refine (block_at m c hx hq t j l v).trans (congrArg (result m c) ?_)
  blk_ext [index_eq t, member]

end Cert.Proof.Array

end
-- ==== Proof.Indexing.lean ====
/-
  The reference's two indexing operations, read at an index: the gather of a matrix column named by a state, and the
  scatter that sets one entry of every row; and the wrap of negative indices that both index words pass through.
-/
module

public import proofs.«01_k».proof.Proof.Gen.ReferenceIdeal
public import Idealize.ShloMosaic.Lib.Pointwise
public import Idealize.ShloMosaic.Lib.Routing.OpsSet

@[expose] public section

set_option maxRecDepth 16384

noncomputable section

namespace Cert.Proof.Indexing

open Idealize.ShloMosaic Cert.ReferenceIdeal Cert.ReferenceIdeal.Gen

/-- An index word that is not negative is left alone by the wrap of negative indices, and read signed is its number. -/
theorem wrap_toInt (w a : BitVec 32) (n : Nat) (h : w.toNat = n) (hn : n < 2 ^ 31) :
    (Scalar.select (IntOp.cmpi .slt w 0#32) a w).toInt = n := by
  rw [Routing.wrap_of_lt w a (by omega), WordCmp.toInt_eq_toNat_of_lt_half (by omega), h]

/-- The gather `x[bidx, :, s]`, at batch element `b`, position `l` and entry `k`: where the index pair at `(b, l)` names
    matrix `b'` and column `s`, it is entry `k` of that column. -/
theorem gather_apply {α : Type} (x : S16x256x256.Idx → α) (idx : IVec S16x3072x2 32) (b : Fin 16) (l : Fin 3072) (k : Fin 256)
    (b' : Fin 16) (s : Fin 256) (h0 : (idx (ix3 b l 0)).toInt = b'.val) (h1 : (idx (ix3 b l 1)).toInt = s.val) :
    Host.gather gather_S16x256x256_S16x3072x2_S16x3072x256_2_02_n_n_02_2_12561 x idx (ix3 b l k) = x (ix3 b' k s) := by
  have hsi0 : gather_S16x256x256_S16x3072x2_S16x3072x256_2_02_n_n_02_2_12561.siIdx (ix3 b l k) ⟨0, by decide⟩ = ix3 b l 0 :=
    funext fun a => match a with | ⟨0, _⟩ => rfl | ⟨1, _⟩ => rfl | ⟨2, _⟩ => rfl
  have hsi1 : gather_S16x256x256_S16x3072x2_S16x3072x256_2_02_n_n_02_2_12561.siIdx (ix3 b l k) ⟨1, by decide⟩ = ix3 b l 1 :=
    funext fun a => match a with | ⟨0, _⟩ => rfl | ⟨1, _⟩ => rfl | ⟨2, _⟩ => rfl
  have hstart0 : gather_S16x256x256_S16x3072x2_S16x3072x256_2_02_n_n_02_2_12561.start (ix3 b l k) idx 0 = b'.val := by
    refine Eq.trans (b := min (idx (gather_S16x256x256_S16x3072x2_S16x3072x256_2_02_n_n_02_2_12561.siIdx (ix3 b l k) ⟨0, by decide⟩)).toInt.toNat (16 - 1)) rfl ?_
    rw [hsi0, h0]; omega
  have hstart2 : gather_S16x256x256_S16x3072x2_S16x3072x256_2_02_n_n_02_2_12561.start (ix3 b l k) idx 2 = s.val := by
    refine Eq.trans (b := min (idx (gather_S16x256x256_S16x3072x2_S16x3072x256_2_02_n_n_02_2_12561.siIdx (ix3 b l k) ⟨1, by decide⟩)).toInt.toNat (256 - 1)) rfl ?_
    rw [hsi1, h1]; omega
  unfold Host.gather
  refine congrArg x (funext fun a => Fin.ext ?_)
  match a with
  | ⟨0, _⟩ => exact hstart0
  | ⟨1, _⟩ => exact Nat.zero_add _
  | ⟨2, _⟩ => exact hstart2

/-- Update `(b, l)` lands at the element its three index words name, read signed. -/
theorem lands (idx : IVec S16x3072x3 32) (b : Fin 16) (l : Fin 3072) (ι : S16x3072x256.Idx) :
    scatter_S16x3072x256_S16x3072x3_S16x3072_n_012_012_2.resultIdx? (ix2 b l) idx = some ι
      ↔ ∀ a : Fin 3, (idx (ix3 b l a)).toInt = (ι a).val := by
  rw [Routing.resultIdx?_eq_some]
  have hsi (a : Fin 3) : scatter_S16x3072x256_S16x3072x3_S16x3072_n_012_012_2.siIdx (ix2 b l) a = ix3 b l a :=
    funext fun d => match d with | ⟨0, _⟩ => rfl | ⟨1, _⟩ => rfl | ⟨2, _⟩ => rfl
  refine forall_congr' fun a => ?_
  have hs : scatter_S16x3072x256_S16x3072x3_S16x3072_n_012_012_2.start (ix2 b l) idx a = (idx (ix3 b l a)).toInt := by
    rw [← hsi a]
    match a with
    | ⟨0, _⟩ => rfl
    | ⟨1, _⟩ => rfl
    | ⟨2, _⟩ => rfl
  have hw : scatter_S16x3072x256_S16x3072x3_S16x3072_n_012_012_2.window (ix2 b l) a = 0 := by
    match a with
    | ⟨0, _⟩ => rfl
    | ⟨1, _⟩ => rfl
    | ⟨2, _⟩ => rfl
  rw [hs, hw]
  exact iff_of_eq (congrArg (· = _) (Int.add_zero _))

/-- The scatter `x.at[bidx, lidx, s].set(u)`, where the words at `(b, l)` name `b`, `l` and the state `s b l`: the update
    at that state and the operand's own element at every other. -/
theorem scatter_apply {α : Type} (x : S16x3072x256.Idx → α) (idx : IVec S16x3072x3 32) (u : S16x3072.Idx → α)
    (s : Fin 16 → Fin 3072 → Fin 256) (h0 : ∀ b l, (idx (ix3 b l 0)).toInt = b.val) (h1 : ∀ b l, (idx (ix3 b l 1)).toInt = l.val)
    (h2 : ∀ b l, (idx (ix3 b l 2)).toInt = (s b l).val) (b : Fin 16) (l : Fin 3072) (v : Fin 256) :
    Host.scatter scatter_S16x3072x256_S16x3072x3_S16x3072_n_012_012_2 (fun _ e => e) x idx u (ix3 b l v)
      = if v = s b l then u (ix2 b l) else x (ix3 b l v) := by
  have who (k : S16x3072.Idx)
      (hk : scatter_S16x3072x256_S16x3072x3_S16x3072_n_012_012_2.resultIdx? k idx = some (ix3 b l v)) :
      k = ix2 b l ∧ v = s b l := by
    obtain ⟨b', l', rfl⟩ : ∃ (b' : Fin 16) (l' : Fin 3072), k = ix2 b' l' := ⟨k 0, k 1, eq_ix2 k⟩
    have h := (lands idx b' l' (ix3 b l v)).1 hk
    have e0 : (b'.val : Int) = b.val := (h0 b' l').symm.trans (h 0)
    have e1 : (l'.val : Int) = l.val := (h1 b' l').symm.trans (h 1)
    have e2 : ((s b' l').val : Int) = v.val := (h2 b' l').symm.trans (h 2)
    obtain rfl : b' = b := Fin.ext (by omega)
    obtain rfl : l' = l := Fin.ext (by omega)
    exact ⟨rfl, Fin.ext (by omega)⟩
  by_cases e : v = s b l
  · rw [if_pos e]
    refine Routing.scatter_set_hit _ x idx u _ _ (fun k hk => by rw [(who k hk).1]) (ix2 b l) ((lands idx b l _).2 fun a => ?_)
    match a with
    | ⟨0, _⟩ => exact h0 b l
    | ⟨1, _⟩ => exact h1 b l
    | ⟨2, _⟩ => rw [e]; exact h2 b l
  · rw [if_neg e]
    exact Routing.scatter_set_miss _ x idx u _ fun k hk => e (who k hk).2

end Cert.Proof.Indexing

end
-- ==== Proof.RefValue.lean ====
/-
  What the reference computes: the array of reverse rates of its arguments.
-/
module

public import proofs.«01_k».proof.Proof.Gen.ReferenceIdeal.Run
public import proofs.«01_k».proof.Proof.Indexing
public import proofs.«01_k».proof.Proof.Rates

@[expose] public section

set_option maxRecDepth 16384

noncomputable section

namespace Cert.Proof.RefValue

open Idealize.ShloMosaic Idealize.ShloMosaic.TcCoe Cert.ReferenceIdeal Cert.ReferenceIdeal.Gen Cert.Proof.Rates

variable (m : (ℓ : Loc nD τ sig) → Buf (Elt Ideal) ℓ) (c : Dev nD)

/-- Device `c`'s four argument arrays that matter, as arrays of numbers and words: outputs, states, matrices, rates. -/
abbrev outputs : S16x3072x256.Idx → EReal := m ((c : Thread nD τ).loc main_arg0)
@[inherit_doc outputs] abbrev states : S16x3072.Idx → BitVec 32 := m ((c : Thread nD τ).loc main_arg1)
@[inherit_doc outputs] abbrev matrices : S16x256x256.Idx → EReal := m ((c : Thread nD τ).loc main_arg3)
@[inherit_doc outputs] abbrev rates : S16x256x256.Idx → EReal := m ((c : Thread nD τ).loc main_arg4)

/-- With every state in range, the reference's result is the array of reverse rates: the gathers read column `s` of
    batch element `b`'s matrices, and the scatter writes the zero of the rate from `s` to itself. -/
theorem result_eq (hx : ∀ i, (states m c i).toNat < 256) :
    Value.res_out0 (F := Ideal) m c = revArray (outputs m c) (states m c) (matrices m c) (rates m c) := by
  have hb (b : Fin 16) : (BitVec.ofNat 32 b.val).toNat = b.val := WordCmp.toNat_ofNat_of_lt (by omega)
  have hl (l : Fin 3072) : (BitVec.ofNat 32 l.val).toNat = l.val := WordCmp.toNat_ofNat_of_lt (by omega)
  have hs (b : Fin 16) (l : Fin 3072) : (states m c (ix2 b l)).toNat = (state (states m c (ix2 b l))).val :=
    toNat_eq_state (hx _)
  funext i
  obtain ⟨b, l, v, rfl⟩ : ∃ (b : Fin 16) (l : Fin 3072) (v : Fin 256), i = ix3 b l v := ⟨i 0, i 1, i 2, eq_ix3 i⟩
  unfold Value.res_out0 Value.res_main_v61
  dsimp only
  refine (Indexing.scatter_apply _ _ _ (fun b l => state (states m c (ix2 b l))) (fun b l => ?_) (fun b l => ?_)
    (fun b l => ?_) b l v).trans ?_
  · pointwise
    exact Indexing.wrap_toInt _ _ _ (hb b) (by omega)
  · pointwise
    exact Indexing.wrap_toInt _ _ _ (hl l) (by omega)
  · pointwise
    exact Indexing.wrap_toInt _ _ _ (hs b l) (by omega)
  pointwise
  show _ = rev (fun k => outputs m c (ix3 b l k)) (fun k v => matrices m c (ix3 b k v)) (fun v s => rates m c (ix3 b v s))
    (state (states m c (ix2 b l))) v
  unfold rev
  refine if_congr Iff.rfl rfl (congrArg₂ (· * ·) (Indexing.gather_apply _ _ b l v b (state (states m c (ix2 b l))) ?_ ?_)
    (Finset.sum_congr rfl fun k _ => congrArg (fun z => Ideal.div (outputs m c (ix3 b l k)) (z + eps) * matrices m c (ix3 b k v))
      (Indexing.gather_apply _ _ b l k b (state (states m c (ix2 b l))) ?_ ?_)))
  · pointwise
    exact Indexing.wrap_toInt _ _ _ (hb b) (by omega)
  · pointwise
    exact Indexing.wrap_toInt _ _ _ (hs b l) (by omega)
  · pointwise
    exact Indexing.wrap_toInt _ _ _ (hb b) (by omega)
  · pointwise
    exact Indexing.wrap_toInt _ _ _ (hs b l) (by omega)

end Cert.Proof.RefValue

end
-- ==== Proof.Pre.lean ====
/-
  What the precondition says of the arguments: every state word is below 256, and no quotient is zero over zero.
-/
module

public import proofs.«01_k».proof.Pre_states_in_range_and_no_zero_over_zero
public import proofs.«01_k».proof.Proof.Indexing
public import proofs.«01_k».proof.Proof.Rates
public import Idealize.ShloMosaic.Lib.ReduceAll

@[expose] public section

set_option maxRecDepth 16384

noncomputable section

namespace Cert.Proof.Pre

open Idealize.ShloMosaic Cert.Pre_states_in_range_and_no_zero_over_zero Cert.Proof.Rates

/-- The shape relations the precondition's operations take. -/
instance facts : Facts where
  bcast_S16_S16x1_0 := by decide
  bcast_S_S16x1 := by decide
  bcast_S_S16x3072 := by decide
  bcast_S16x1_S16x3072_0_1 := by decide
  bcast_S16x3072_S16x3072x1_0_1 := by decide
  concatenates_S16x3072x1_S16x3072x1_S16x3072x2_d2 := by decide
  bcast_S_S16x3072x256 := by decide
  reducesTo_S16x3072_S_d0_1 := by decide
  h_S_ := by decide
  reducesTo_S16x3072x256_S_d0_1_2 := by decide
  gather_S16x256x256_S16x3072x2_S16x3072x256_2_02_n_n_02_2_12561_wf :=
    Cert.ReferenceIdeal.Gen.facts.gather_S16x256x256_S16x3072x2_S16x3072x256_2_02_n_n_02_2_12561_wf

/-- The precondition, decoded: where its two reductions by `and` are 1, so is the comparison at every element. The
    denominators it compares are gathered as the reference gathers them, so they are those of the state's column. -/
theorem decode (o : FVec Ideal S16x3072x256 .f32) (x : IVec S16x3072 32) (t : FVec Ideal S16 .f32)
    (q r : FVec Ideal S16x256x256 .f32) (h : fn (F := Ideal) o x t q r = fun _ => 1#1) :
    (∀ i, (x i).toNat < 256)
      ∧ ∀ b l k, (o (ix3 b l k) : EReal) ≠ 0 ∨ (q (ix3 b k (state (x (ix2 b l)))) : EReal) + eps ≠ 0 := by
  haveI : Subsingleton S_.Idx := ⟨fun a b => funext fun d => d.elim0⟩
  unfold fn fn_part1 at h
  dsimp only at h
  have h0 := congrFun h (fun d => d.elim0)
  rw [andi_apply] at h0
  obtain ⟨hs, hd⟩ := IntOp.andi_eq_one.1 h0
  have hx i : (x i).toNat < 256 := by
    obtain ⟨b, l, rfl⟩ : ∃ (b : Fin 16) (l : Fin 3072), i = ix2 b l := ⟨i 0, i 1, eq_ix2 i⟩
    have e := Host.reduce_andi_all _ _ _ _ _ hs (ix2 b l)
    pointwise at e
    rw [WordCmp.andi_sge_zero_slt_ofNat (k := 256) (by decide)] at e
    exact (WordCmp.ofBool_decide_eq_one_iff _).1 e
  refine ⟨hx, fun b l k => ?_⟩
  have e := Host.reduce_andi_all _ _ _ _ _ hd (ix3 b l k)
  pointwise at e
  refine (IntOp.ori_eq_one.1 e).imp (WordCmp.ofBool_decide_eq_one_iff _).1 fun e => ?_
  have d := (WordCmp.ofBool_decide_eq_one_iff _).1 e
  rw [← Indexing.gather_apply q _ b l k b (state (x (ix2 b l))) ?_ ?_]
  · exact d
  · pointwise
    exact Indexing.wrap_toInt _ _ _ (WordCmp.toNat_ofNat_of_lt (by omega)) (by omega)
  · pointwise
    exact Indexing.wrap_toInt _ _ _ (toNat_eq_state (hx _)) (by omega)

end Cert.Proof.Pre

end
-- ==== Proof.lean ====
/-
  The proof of `Cert.Claim`: the five claims about the kernel and its reference, assembled from the modules of Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefValue
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- With every state in range and no quotient zero over zero, the kernel's result array ends at the array of reverse
    rates of its arguments, the arguments unchanged. -/
theorem kernel_run (m : (ℓ : Loc KernelIdeal.nD KernelIdeal.τ KernelIdeal.sig) → Buf (Elt Ideal) ℓ)
    (ρ : Dev KernelIdeal.nD → PrngReg)
    (h : ∀ c, (∀ i, (Array.states m c i).toNat < 256) ∧ ∀ b l k, Array.outputs m c (ix3 b l k) ≠ 0
      ∨ Array.matrices m c (ix3 b k (Rates.state (Array.states m c (ix2 b l)))) + Rates.eps ≠ 0) :
    θ_run KernelIdeal.defs (onTc (τ := KernelIdeal.τ) (KernelIdeal.main (F := Ideal))) ⟨m, fun _ => 0, ρ⟩ fun r =>
      ∀ c : Dev KernelIdeal.nD, r.2.mem ((c : Thread KernelIdeal.nD KernelIdeal.τ).loc KernelIdeal.main_v1) = Array.result m c
        ∧ r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1)
        ∧ r.2.mem ((c : Thread KernelIdeal.nD KernelIdeal.τ).loc KernelIdeal.main_arg2) = m ((c : Thread KernelIdeal.nD KernelIdeal.τ).loc KernelIdeal.main_arg2)
        ∧ r.2.mem ((c : Thread KernelIdeal.nD KernelIdeal.τ).loc KernelIdeal.main_arg3) = m ((c : Thread KernelIdeal.nD KernelIdeal.τ).loc KernelIdeal.main_arg3)
        ∧ r.2.mem ((c : Thread KernelIdeal.nD KernelIdeal.τ).loc KernelIdeal.main_arg4) = m ((c : Thread KernelIdeal.nD KernelIdeal.τ).loc KernelIdeal.main_arg4) :=
  (θ_run KernelIdeal.defs _ _).mono (fun _ r c => ⟨(r c).1.trans (Array.final m c (h c).1 (h c).2), (r c).2⟩)
    (KernelIdeal.Value.run_blocks m ρ)

/-- The reference's arguments end unchanged, and it declares no semaphore. -/
theorem reference_frame : Cert.quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

/-- From arguments that agree, with every state in range and no quotient zero over zero, both programs end with the array of
    reverse rates. -/
theorem algebraic : Cert.algebraic_KernelIdeal_ReferenceIdeal_pre_states_in_range_and_no_zero_over_zero := by
  intro m ρ m' ρ' hpre hagree
  have h c := Pre.decode _ _ _ _ _ (hpre c)
  refine ⟨fun c => Array.result m c, kernel_run m ρ h, ?_⟩
  refine (θ_run ReferenceIdeal.defs _ _).mono (fun _ r c => ⟨(r c).1.trans ?_, (r c).2⟩)
    (ReferenceIdeal.Value.run (F := Ideal) m' ρ')
  obtain ⟨e0, e1, -, e3, e4⟩ := hagree c
  refine (RefValue.result_eq m' c fun i => ?_).trans ?_
  · unfold RefValue.states
    rw [e1]
    exact (h c).1 i
  · unfold RefValue.outputs RefValue.states RefValue.matrices RefValue.rates
    rw [e0, e1, e3, e4]

/-- Every claim: both kernels and the reference run to the end and leave their arguments as they were, the idealized
    kernel is the kernel's own text, and it computes what the reference computes. -/
theorem claim : Cert.Claim := ⟨Kernel.Gen.facts, KernelIdeal.Gen.facts, ReferenceIdeal.Gen.facts, Pre.facts,
  fun m ρ _ => Kernel.Gen.frame m ρ, fun m ρ _ => KernelIdeal.Gen.frame m ρ, fun m ρ _ => KernelIdeal.Gen.frame m ρ,
  reference_frame, fun m ρ _ => reference_frame m ρ trivial, trivial, algebraic⟩

end Cert.Proof

end
